-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_months_name_rows [hPre_months_name_rows : Cert.Pre_months_name_rows.Facts] (m : (ℓ : Loc Cert.KernelIdeal.nD Cert.KernelIdeal.τ Cert.KernelIdeal.sig) → Buf (Elt Ideal) ℓ) : Prop :=
  ∀ c : Dev Cert.KernelIdeal.nD,
    (Cert.Pre_months_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_months_name_rows [hPre_months_name_rows : Cert.Pre_months_name_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_months_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_months_name_rows [hKernelIdeal : Cert.KernelIdeal.Facts] [hPre_months_name_rows : Cert.Pre_months_name_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_months_name_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_months_name_rows [hReferenceIdeal : Cert.ReferenceIdeal.Facts] [hPre_months_name_rows : Cert.Pre_months_name_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_months_name_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_months_name_rows [hKernelIdeal : Cert.KernelIdeal.Facts] [hReferenceIdeal : Cert.ReferenceIdeal.Facts] [hPre_months_name_rows : Cert.Pre_months_name_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_months_name_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_months_name_rows : Cert.Pre_months_name_rows.Facts),
    quiescent_Kernel (hKernel := hKernel)
    ∧ quiescent_KernelIdeal (hKernelIdeal := hKernelIdeal)
    ∧ quiescent_KernelIdeal_pre_months_name_rows (hKernelIdeal := hKernelIdeal) (hPre_months_name_rows := hPre_months_name_rows)
    ∧ quiescent_ReferenceIdeal (hReferenceIdeal := hReferenceIdeal)
    ∧ quiescent_ReferenceIdeal_pre_months_name_rows (hReferenceIdeal := hReferenceIdeal) (hPre_months_name_rows := hPre_months_name_rows)
    ∧ preserves_Kernel_KernelIdeal
    ∧ algebraic_KernelIdeal_ReferenceIdeal_pre_months_name_rows (hKernelIdeal := hKernelIdeal) (hReferenceIdeal := hReferenceIdeal) (hPre_months_name_rows := hPre_months_name_rows)
-- ==== Pre_months_name_rows.lean ====
abbrev S256x24x3x1024 : Shape := ⟨4, ![256, 24, 3, 1024]⟩
abbrev S256x24x3 : Shape := ⟨3, ![256, 24, 3]⟩
abbrev S3x256 : Shape := ⟨2, ![3, 256]⟩
abbrev S64x256 : Shape := ⟨2, ![64, 256]⟩
abbrev S12x256 : Shape := ⟨2, ![12, 256]⟩
abbrev S256x24x1 : Shape := ⟨3, ![256, 24, 1]⟩
abbrev S256x24 : Shape := ⟨2, ![256, 24]⟩
abbrev S_ : Shape := ⟨0, ![]⟩

class Facts : Prop where
  slices_S256x24x3_S256x24x1_0_0_1 : S256x24x3.Slices ![0, 0, 1] S256x24x1
  shapeCasts_S256x24x1_S256x24 : S256x24x1.ShapeCasts S256x24
  bcast_S_S256x24 : S_.BroadcastsInDim S256x24 (![] : Fin 0 → Fin S256x24.rank)

variable [Facts]

def fn {F : FTy → Type} [FloatOps F] (main_arg0 : FVec F S256x24x3x1024 .f32) (main_arg1 : IVec S256x24x3 32) (main_arg2 : FVec F S3x256 .f32) (main_arg3 : FVec F S64x256 .f32) (main_arg4 : FVec F S12x256 .f32) : IVec S256x24 1 :=
  let main_v0 : IVec S256x24x1 32 := (extractStridedSlice S256x24x1 ![0, 0, 1] · slices_S256x24x3_S256x24x1_0_0_1) main_arg1
  let main_v1 : IVec S256x24 32 := shapeCast S256x24 main_v0 shapeCasts_S256x24x1_S256x24
  let main_c : IVec S_ 32 := constantI S_ 32 0#32
  let main_v2 : IVec S256x24 32 := broadcastInDim S256x24 ![] bcast_S_S256x24 main_c
  let main_v3 : IVec S256x24 1 := cmpi .sge main_v1 main_v2
  let main_c_0 : IVec S_ 32 := constantI S_ 32 12#32
  let main_v4 : IVec S256x24 32 := broadcastInDim S256x24 ![] bcast_S_S256x24 main_c_0
  let main_v5 : IVec S256x24 1 := cmpi .slt main_v1 main_v4
  let main_v6 : IVec S256x24 1 := andi main_v3 main_v5
  main_v6
-- ==== Kernel.lean ====
abbrev S256x24x3x1024 : Shape := ⟨4, ![256, 24, 3, 1024]⟩
abbrev S256x24x3 : Shape := ⟨3, ![256, 24, 3]⟩
abbrev S3x256 : Shape := ⟨2, ![3, 256]⟩
abbrev S64x256 : Shape := ⟨2, ![64, 256]⟩
abbrev S12x256 : Shape := ⟨2, ![12, 256]⟩
abbrev S256x24x1 : Shape := ⟨3, ![256, 24, 1]⟩
abbrev S256x24 : Shape := ⟨2, ![256, 24]⟩
abbrev S8x32x24 : Shape := ⟨3, ![8, 32, 24]⟩
abbrev S256x3x24x1024 : Shape := ⟨4, ![256, 3, 24, 1024]⟩
abbrev S24x256 : Shape := ⟨2, ![24, 256]⟩
abbrev S1x32x24 : Shape := ⟨3, ![1, 32, 24]⟩
abbrev S32x1x24x1024 : Shape := ⟨4, ![32, 1, 24, 1024]⟩
abbrev S32x24 : Shape := ⟨2, ![32, 24]⟩
abbrev S32x24x256 : Shape := ⟨3, ![32, 24, 256]⟩
abbrev S32x24x1 : Shape := ⟨3, ![32, 24, 1]⟩
abbrev S1x256 : Shape := ⟨2, ![1, 256]⟩
abbrev S256 : Shape := ⟨1, ![256]⟩
abbrev S1x1x256 : Shape := ⟨3, ![1, 1, 256]⟩
abbrev S32x1x24x256 : Shape := ⟨4, ![32, 1, 24, 256]⟩
abbrev S1x1x1x256 : Shape := ⟨4, ![1, 1, 1, 256]⟩
abbrev S1x1x24x256 : Shape := ⟨4, ![1, 1, 24, 256]⟩

abbrev nBuf : Space → Nat
  | .hbm => 12
  | .vmem => 9
  | .smem => 0
  | _ => 0

abbrev bufTy : (tb : Table) → Fin (tcTables nBuf tb) → BufTy
  | .hbm, ⟨0, _⟩ => ⟨S256x24x3x1024, .f32⟩
  | .hbm, ⟨1, _⟩ => ⟨S256x24x3, .i32⟩
  | .hbm, ⟨2, _⟩ => ⟨S3x256, .f32⟩
  | .hbm, ⟨3, _⟩ => ⟨S64x256, .f32⟩
  | .hbm, ⟨4, _⟩ => ⟨S12x256, .f32⟩
  | .hbm, ⟨5, _⟩ => ⟨S256x24x1, .i32⟩
  | .hbm, ⟨6, _⟩ => ⟨S256x24, .i32⟩
  | .hbm, ⟨7, _⟩ => ⟨S8x32x24, .i32⟩
  | .hbm, ⟨8, _⟩ => ⟨S256x3x24x1024, .f32⟩
  | .hbm, ⟨9, _⟩ => ⟨S24x256, .f32⟩
  | .hbm, ⟨10, _⟩ => ⟨S256x3x24x1024, .f32⟩
  | .hbm, ⟨11, _⟩ => ⟨S256x24x3x1024, .f32⟩
  | .local _ .vmem, ⟨0, _⟩ => ⟨S1x32x24, .i32⟩
  | .local _ .vmem, ⟨1, _⟩ => ⟨S1x32x24, .i32⟩
  | .local _ .vmem, ⟨2, _⟩ => ⟨S3x256, .f32⟩
  | .local _ .vmem, ⟨3, _⟩ => ⟨S24x256, .f32⟩
  | .local _ .vmem, ⟨4, _⟩ => ⟨S12x256, .f32⟩
  | .local _ .vmem, ⟨5, _⟩ => ⟨S32x1x24x1024, .f32⟩
  | .local _ .vmem, ⟨6, _⟩ => ⟨S32x1x24x1024, .f32⟩
  | .local _ .vmem, ⟨7, _⟩ => ⟨S32x1x24x1024, .f32⟩
  | .local _ .vmem, ⟨8, _⟩ => ⟨S32x1x24x1024, .f32⟩
  | _, _ => ⟨S256x24x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 3], ![false, false]⟩

def k0_off1 (i : grid0.Coords) : Fin 2 → Nat :=
  let arg1 : BitVec 32 := BitVec.ofNat 32 (i 1).val
  let v149 : Index := Scalar.indexCast arg1
  let c0_19 : Index := 0#32
  ![v149.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x24 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S24x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x1x24x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1x24x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S256x24x3x1024 : Shape := ⟨4, ![256, 24, 3, 1024]⟩
abbrev S256x24x3 : Shape := ⟨3, ![256, 24, 3]⟩
abbrev S3x256 : Shape := ⟨2, ![3, 256]⟩
abbrev S64x256 : Shape := ⟨2, ![64, 256]⟩
abbrev S12x256 : Shape := ⟨2, ![12, 256]⟩
abbrev S_ : Shape := ⟨0, ![]⟩
abbrev S1x1x3x256 : Shape := ⟨4, ![1, 1, 3, 256]⟩
abbrev S256x24x3x256 : Shape := ⟨4, ![256, 24, 3, 256]⟩
abbrev S1 : Shape := ⟨1, ![1]⟩
abbrev S24x256 : Shape := ⟨2, ![24, 256]⟩
abbrev S1x24x1x256 : Shape := ⟨4, ![1, 24, 1, 256]⟩
abbrev S256x24x1 : Shape := ⟨3, ![256, 24, 1]⟩
abbrev S256x24 : Shape := ⟨2, ![256, 24]⟩
abbrev S1x1x1 : Shape := ⟨3, ![1, 1, 1]⟩
abbrev S256x24x256 : Shape := ⟨3, ![256, 24, 256]⟩
abbrev S256x24x1x256 : Shape := ⟨4, ![256, 24, 1, 256]⟩

abbrev nBuf : Space → Nat
  | .hbm => 49
  | .vmem => 0
  | .smem => 0
  | _ => 0

abbrev bufTy : (tb : Table) → Fin (tcTables nBuf tb) → BufTy
  | .hbm, ⟨0, _⟩ => ⟨S256x24x3x1024, .f32⟩
  | .hbm, ⟨1, _⟩ => ⟨S256x24x3, .i32⟩
  | .hbm, ⟨2, _⟩ => ⟨S3x256, .f32⟩
  | .hbm, ⟨3, _⟩ => ⟨S64x256, .f32⟩
  | .hbm, ⟨4, _⟩ => ⟨S12x256, .f32⟩
  | .hbm, ⟨5, _⟩ => ⟨S_, .f32⟩
  | .hbm, ⟨6, _⟩ => ⟨S256x24x3x1024, .f32⟩
  | .hbm, ⟨7, _⟩ => ⟨S1x1x3x256, .f32⟩
  | .hbm, ⟨8, _⟩ => ⟨S256x24x3x256, .f32⟩
  | .hbm, ⟨9, _⟩ => ⟨S_, .i32⟩
  | .hbm, ⟨10, _⟩ => ⟨S1, .i32⟩
  | .hbm, ⟨11, _⟩ => ⟨S256x24x3x1024, .f32⟩
  | .hbm, ⟨12, _⟩ => ⟨S24x256, .f32⟩
  | .hbm, ⟨13, _⟩ => ⟨S1x24x1x256, .f32⟩
  | .hbm, ⟨14, _⟩ => ⟨S256x24x3x256, .f32⟩
  | .hbm, ⟨15, _⟩ => ⟨S_, .i32⟩
  | .hbm, ⟨16, _⟩ => ⟨S1, .i32⟩
  | .hbm, ⟨17, _⟩ => ⟨S256x24x3x1024, .f32⟩
  | .hbm, ⟨18, _⟩ => ⟨S256x24x1, .i32⟩
  | .hbm, ⟨19, _⟩ => ⟨S256x24, .i32⟩
  | .hbm, ⟨20, _⟩ => ⟨S_, .i32⟩
  | .hbm, ⟨21, _⟩ => ⟨S256x24, .i32⟩
  | .hbm, ⟨22, _⟩ => ⟨S256x24, .i1⟩
  | .hbm, ⟨23, _⟩ => ⟨S_, .i32⟩
  | .hbm, ⟨24, _⟩ => ⟨S256x24, .i32⟩
  | .hbm, ⟨25, _⟩ => ⟨S256x24, .i32⟩
  | .hbm, ⟨26, _⟩ => ⟨S256x24, .i32⟩
  | .hbm, ⟨27, _⟩ => ⟨S256x24x1, .i32⟩
  | .hbm, ⟨28, _⟩ => ⟨S1, .i32⟩
  | .hbm, ⟨29, _⟩ => ⟨S_, .i32⟩
  | .hbm, ⟨30, _⟩ => ⟨S256x24x1, .i32⟩
  | .hbm, ⟨31, _⟩ => ⟨S256x24x1, .i1⟩
  | .hbm, ⟨32, _⟩ => ⟨S1x1x1, .i32⟩
  | .hbm, ⟨33, _⟩ => ⟨S256x24x1, .i32⟩
  | .hbm, ⟨34, _⟩ => ⟨S256x24x1, .i1⟩
  | .hbm, ⟨35, _⟩ => ⟨S256x24x1, .i1⟩
  | .hbm, ⟨36, _⟩ => ⟨S_, .i1⟩
  | .hbm, ⟨37, _⟩ => ⟨S256x24, .i1⟩
  | .hbm, ⟨38, _⟩ => ⟨S256x24x256, .f32⟩
  | .hbm, ⟨39, _⟩ => ⟨S256x24x256, .i1⟩
  | .hbm, ⟨40, _⟩ => ⟨S_, .f32⟩
  | .hbm, ⟨41, _⟩ => ⟨S256x24x256, .f32⟩
  | .hbm, ⟨42, _⟩ => ⟨S256x24x256, .f32⟩
  | .hbm, ⟨43, _⟩ => ⟨S256x24x1x256, .f32⟩
  | .hbm, ⟨44, _⟩ => ⟨S256x24x3x256, .f32⟩
  | .hbm, ⟨45, _⟩ => ⟨S_, .i32⟩
  | .hbm, ⟨46, _⟩ => ⟨S1, .i32⟩
  | .hbm, ⟨47, _⟩ => ⟨S256x24x3x1024, .f32⟩
  | .hbm, ⟨48, _⟩ => ⟨S256x24x3x1024, .f32⟩
  | _, _ => ⟨S256x24x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩

abbrev nD : Nat := 1
abbrev τ : Topo := Topo.v7x

variable {F : FTy → Type} [FloatOps F]
-- ==== Proof.Spec.lean ====
module

public import Idealize.ShloMosaic.Lib.Pointwise

@[expose] public section

noncomputable section

namespace Cert.Encode

open Idealize.ShloMosaic Idealize.ShloMosaic.Pointwise

/-- Column `o + e` of a token, for the column `e` of a quarter of 256 columns that starts at `o`. -/
abbrev col (o : ℕ) (ho : o ≤ 768) (e : Fin 256) : Fin 1024 := ⟨o + e.val, by omega⟩

/-- What is added to a token at column `e`: the channel's row in the first quarter, the position's row in the second, the
    month's row in the third, nothing in the fourth. -/
def quarters (a b c : Fin 256 → EReal) (e : Fin 1024) : EReal :=
  if h : e.val < 256 then a ⟨e.val, h⟩
  else if h : e.val < 512 then b ⟨e.val - 256, by omega⟩
  else if h : e.val < 768 then c ⟨e.val - 512, by omega⟩
  else 0

variable (a b c : Fin 256 → EReal)

/-- In the first quarter: the channel's row. -/
theorem quarters_first (e : Fin 1024) (d : Fin 256) (h : e.val = d.val) : quarters a b c e = a d := by
  unfold quarters
  rw [dif_pos (by omega)]
  exact congrArg a (Fin.ext h)

/-- In the second quarter: the position's row. -/
theorem quarters_second (e : Fin 1024) (d : Fin 256) (h : e.val = 256 + d.val) : quarters a b c e = b d := by
  unfold quarters
  rw [dif_neg (by omega), dif_pos (by omega)]
  exact congrArg b (Fin.ext (by show e.val - 256 = d.val; omega))

/-- In the third quarter: the month's row. -/
theorem quarters_third (e : Fin 1024) (d : Fin 256) (h : e.val = 512 + d.val) : quarters a b c e = c d := by
  unfold quarters
  rw [dif_neg (by omega), dif_neg (by omega), dif_pos (by omega)]
  exact congrArg c (Fin.ext (by show e.val - 512 = d.val; omega))

/-- In the fourth quarter: nothing. -/
theorem quarters_fourth (e : Fin 1024) (h : 768 ≤ e.val) : quarters a b c e = 0 := by
  unfold quarters
  rw [dif_neg (by omega), dif_neg (by omega), dif_neg (by omega)]

/-- Every time step's month (the second of its three time stamps) is a row of the month table. -/
abbrev MonthsInTable (x1 : (⟨3, ![256, 24, 3]⟩ : Shape).Idx → BitVec 32) : Prop :=
  ∀ (b : Fin 256) (s : Fin 24), (x1 (ix3 b s 1)).toNat < 12

/-- The encoded token of batch row `b`, step `s` and channel `k` at column `e`, from the tokens `x0`, the time stamps `x1`, the
    channel table `x2`, the position table `x3` and the month table `x4`. -/
def encoded (x0 : (⟨4, ![256, 24, 3, 1024]⟩ : Shape).Idx → EReal) (x1 : (⟨3, ![256, 24, 3]⟩ : Shape).Idx → BitVec 32)
    (x2 : (⟨2, ![3, 256]⟩ : Shape).Idx → EReal) (x3 : (⟨2, ![64, 256]⟩ : Shape).Idx → EReal)
    (x4 : (⟨2, ![12, 256]⟩ : Shape).Idx → EReal) (H : MonthsInTable x1) (b : Fin 256) (s : Fin 24) (k : Fin 3) (e : Fin 1024) : EReal :=
  x0 (ix4 b s k e)
    + quarters (fun d => x2 (ix2 k d)) (fun d => x3 (ix2 ⟨s.val, by omega⟩ d)) (fun d => x4 (ix2 ⟨(x1 (ix3 b s 1)).toNat, H b s⟩ d)) e

end Cert.Encode

end
-- ==== Proof.OneHot.lean ====
module

public import Idealize.ShloMosaic.Lib.Pointwise

@[expose] public section

noncomputable section

namespace Cert.Encode

open Idealize.ShloMosaic

/-- The flag of month `k` as the kernel makes it: the comparison's bit, widened to a word and read as a number. -/
abbrev flag (w : BitVec 32) (k : ℕ) : EReal :=
  FloatOps.sitofp (F := Ideal) .f32 (BitVec.setWidth 32 (IntOp.cmpi .eq w (BitVec.ofNat 32 k)))

/-- The flag is 1 at the month itself and 0 at every other month. -/
theorem flag_eq (w : BitVec 32) (k : ℕ) (hk : k < 12) : flag w k = if w.toNat = k then 1 else 0 := by
  have e : w = BitVec.ofNat 32 k ↔ w.toNat = k := by
    rw [← BitVec.toNat_inj, BitVec.toNat_ofNat, Nat.mod_eq_of_lt (by omega)]
  show (((BitVec.setWidth 32 (IntOp.cmpi .eq w (BitVec.ofNat 32 k))).toInt : ℝ) : EReal) = _
  by_cases h : w.toNat = k
  · rw [if_pos h, e.2 h]
    simp [IntOp.cmpi]
  · rw [if_neg h]
    have h' : (w == BitVec.ofNat 32 k) = false := beq_eq_false_iff_ne.2 fun q => h (e.1 q)
    simp [IntOp.cmpi, h']

/-- The sum over the months before `n` of each month's flag times its value. -/
def flagged (w : BitVec 32) (x : Fin 12 → EReal) : (n : ℕ) → n ≤ 12 → EReal
  | 0, _ => 0
  | n + 1, h => flagged w x n (Nat.le_of_succ_le h) + flag w n * x ⟨n, h⟩

/-- That sum is the value of the month `w` names when it is one of the first `n`, else zero. -/
theorem flagged_eq (w : BitVec 32) (x : Fin 12 → EReal) (n : ℕ) (h : n ≤ 12) :
    flagged w x n h = if hw : w.toNat < n then x ⟨w.toNat, by omega⟩ else 0 := by
  induction n with
  | zero => rw [dif_neg (by omega)]; rfl
  | succ n ih =>
    rw [flagged, ih, flag_eq w n (by omega)]
    by_cases e : w.toNat = n
    · rw [dif_neg (by omega), if_pos e, dif_pos (by omega), zero_add, one_mul]
      exact congrArg x (Fin.ext e.symm)
    · rw [if_neg e, zero_mul, add_zero]
      by_cases l : w.toNat < n
      · rw [dif_pos l, dif_pos (by omega)]
      · rw [dif_neg l, dif_neg (by omega)]

end Cert.Encode

end
-- ==== Proof.Block.lean ====
module

public import proofs.«01_k».proof.Proof.Gen.KernelIdeal.Run
public import proofs.«01_k».proof.Proof.Spec
public import proofs.«01_k».proof.Proof.OneHot
public import Idealize.ShloMosaic.Lib.Pipeline.ValueKit

@[expose] public section

set_option maxRecDepth 16384

noncomputable section

namespace Cert.KernelIdeal.Encode

open Cert.KernelIdeal Cert.KernelIdeal.Gen Idealize.ShloMosaic Idealize.ShloMosaic.Pointwise Cert.Encode

variable (X : Vec Ideal S32x1x24x1024 .f32) (r : Fin 32) (t : Fin 24) (e : Fin 256)

/-- The first store of a block `X` of tokens, at row `r`, step `t` and column `e`: the token plus the channel's row. -/
theorem first_store (R : Vec Ideal S1x256 .f32) :
    k0_pay6 (k0_pay1 X) R (ix4 r 0 t e) = X (ix4 r 0 t (col 0 (by decide) e)) + R (ix2 0 e) := by
  pointwise [k0_pay6, k0_pay1]
  blk_point

/-- The second store: the token, 256 columns on, plus the position's row. -/
theorem second_store (P : Vec Ideal S24x256 .f32) :
    k0_pay7 (k0_pay1 X) P (ix4 r 0 t e) = X (ix4 r 0 t (col 256 (by decide) e)) + P (ix2 t e) := by
  pointwise [k0_pay7, k0_pay1]

/-- The third store: the token, 512 columns on, plus the twelve rows `R k` of the month table, each times its month's flag. -/
theorem third_store (W : Vec Ideal S1x32x24 .i32) (R : Fin 12 → Vec Ideal S1x256 .f32) :
    k0_pay8 (k0_pay1 X) (k0_pay2 W)
        (k0_pay5 (k0_pay2 W) (k0_pay4 (k0_pay2 W) (k0_pay3 W (R 0) (R 1) (R 2)) (R 3) (R 4) (R 5) (R 6)) (R 7) (R 8) (R 9) (R 10)) (R 11)
        (ix4 r 0 t e)
      = X (ix4 r 0 t (col 512 (by decide) e)) + flagged (W (ix3 0 r t)) (fun k => R k (ix2 0 e)) 12 (Nat.le_refl 12) := by
  pointwise [k0_pay8, k0_pay5, k0_pay4, k0_pay3, k0_pay2, k0_pay1]
  simp only [flagged, zero_add]
  rfl

/-- The fourth store: the token, 768 columns on. -/
theorem fourth_store : k0_pay9 (k0_pay1 X) (ix4 r 0 t e) = X (ix4 r 0 t (col 768 (by decide) e)) := by
  pointwise [k0_pay9, k0_pay1]

end Cert.KernelIdeal.Encode

end
-- ==== Proof.Inputs.lean ====
module

public import proofs.«01_k».proof.Proof.Gen.KernelIdeal.Run
public import Idealize.ShloMosaic.Lib.Pipeline.ValueKit
public import Idealize.ShloMosaic.Lib.Pointwise

@[expose] public section

set_option maxRecDepth 16384

noncomputable section

namespace Cert.KernelIdeal.Encode

open Cert.KernelIdeal Cert.KernelIdeal.Gen Idealize.ShloMosaic Idealize.ShloMosaic.TcCoe Idealize.SL.Sem Idealize.ShloMosaic.Pointwise

variable (m : (ℓ : Loc nD τ sig) → Buf (Elt Ideal) ℓ) (c : Dev nD) (t : Fin cfg0.N)

/-- The block index of each window at each grid point. -/
theorem idx : ∀ t : Fin cfg0.N,
    win0_0.index t = ![(grid0.coords t 0).val, 0, 0] ∧ win0_1.index t = ![0, 0] ∧ win0_2.index t = ![0, 0]
      ∧ win0_3.index t = ![0, 0] ∧ win0_4.index t = ![(grid0.coords t 0).val, (grid0.coords t 1).val, 0, 0]
      ∧ win0_5.index t = ![(grid0.coords t 0).val, (grid0.coords t 1).val, 0, 0] := (by decide +kernel : ∀ t : Fin grid0.N, _)

/-- The batch group of a grid point is one of 8, its channel one of 3. -/
theorem coords_lt : ∀ t : Fin cfg0.N, (grid0.coords t 0).val < 8 ∧ (grid0.coords t 1).val < 3 :=
  (by decide +kernel : ∀ t : Fin grid0.N, _)

/-- The batch row that row `r` of a point's block is. -/
abbrev row (r : Fin 32) : Fin 256 := ⟨32 * (grid0.coords t 0).val + r.val, by have := (coords_lt t).1; omega⟩

/-- The channel of a point's block. -/
abbrev chan : Fin 3 := ⟨(grid0.coords t 1).val, (coords_lt t).2⟩

/-! ## What the host's operations before the region leave -/

/-- The region finds the tokens with the steps' and channels' axes exchanged. -/
theorem entry_tokens : V m c main_call0_v3
    = transpose S256x3x24x1024 [0, 2, 1, 3] (m ((c.tc : Thread nD τ).loc main_arg0)) transposes_S256x24x3x1024_S256x3x24x1024_0_2_1_3 := by
  rfl

/-- The region finds the second time stamp of every step, in groups of 32 batch rows. -/
theorem entry_months : V m c main_call0_v2
    = shapeCast S8x32x24 (shapeCast S256x24 (extractStridedSlice S256x24x1 ![0, 0, 1] (m ((c.tc : Thread nD τ).loc main_arg1))
        slices_S256x24x3_S256x24x1_0_0_1) shapeCasts_S256x24x1_S256x24) shapeCasts_S256x24_S8x32x24 := by
  rfl

/-- The region finds the first 24 rows of the position table. -/
theorem entry_positions : V m c main_call0_v4
    = extractStridedSlice S24x256 ![0, 0] (m ((c.tc : Thread nD τ).loc main_arg3)) slices_S64x256_S24x256_0_0 := by
  rfl

/-! ## The blocks -/

/-- The token block at (r, 0, s, e): the token of batch row `row t r`, step `s`, channel `chan t`, at column `e`. -/
theorem token_block (r : Fin 32) (s : Fin 24) (e : Fin 1024) :
    iblk m c 4 t (ix4 r 0 s e) = m ((c.tc : Thread nD τ).loc main_arg0) (ix4 (row t r) s (chan t) e) := by
  show V m c main_call0_v3 _ = _
  rw [entry_tokens]
  blk_simp [idx t]
  pointwise
  blk_ext [idx t]

/-- The month block at (0, r, s): the second time stamp of batch row `row t r`, step `s`. -/
theorem month_block (r : Fin 32) (s : Fin 24) :
    iblk m c 0 t (ix3 0 r s) = m ((c.tc : Thread nD τ).loc main_arg1) (ix3 (row t r) s 1) := by
  show V m c main_call0_v2 _ = _
  rw [entry_months]
  blk_simp [idx t]
  pointwise
  blk_ext [idx t]

/-- The channel block is the whole channel table. -/
theorem channel_block (k : Fin 3) (e : Fin 256) : iblk m c 1 t (ix2 k e) = m ((c.tc : Thread nD τ).loc main_arg2) (ix2 k e) := by
  blk_ext! [iblk, V, idx t]

/-- The position block is the first 24 rows of the position table. -/
theorem position_block (s : Fin 24) (e : Fin 256) :
    iblk m c 2 t (ix2 s e) = m ((c.tc : Thread nD τ).loc main_arg3) (ix2 ⟨s.val, by omega⟩ e) := by
  show V m c main_call0_v4 _ = _
  rw [entry_positions]
  blk_simp [idx t]
  pointwise
  blk_ext [idx t]

/-- The month table's block is the whole table. -/
theorem table_block (k : Fin 12) (e : Fin 256) : iblk m c 3 t (ix2 k e) = m ((c.tc : Thread nD τ).loc main_arg4) (ix2 k e) := by
  blk_ext! [iblk, V, idx t]

end Cert.KernelIdeal.Encode

end
-- ==== Proof.KernelArray.lean ====
module

public import proofs.«01_k».proof.Proof.Block
public import proofs.«01_k».proof.Proof.Inputs

@[expose] public section

set_option maxRecDepth 16384

noncomputable section

namespace Cert.KernelIdeal.Encode

open Cert.KernelIdeal Cert.KernelIdeal.Gen Idealize.ShloMosaic Idealize.ShloMosaic.TcCoe Idealize.SL.Sem Idealize.ShloMosaic.Pointwise Cert.Encode

variable (m : (ℓ : Loc nD τ sig) → Buf (Elt Ideal) ℓ) (c : Dev nD)

/-- The encoded tokens of the kernel's five arguments. -/
abbrev enc (H : MonthsInTable (m ((c.tc : Thread nD τ).loc main_arg1))) : Fin 256 → Fin 24 → Fin 3 → Fin 1024 → EReal :=
  encoded (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) H

variable (H : MonthsInTable (m ((c.tc : Thread nD τ).loc main_arg1)))

/-- The region's result array, whose channels come before its steps. -/
def arrayOf : Buf (Elt Ideal) ((c.tc : Thread nD τ).loc main_call0_v5) := fun i => enc m c H (i 0) (i 2) (i 1) (i 3)

/-- Element (r, 0, s, e) of point `t`'s block of the result array. -/
theorem arrayOf_block (t : Fin cfg0.N) (y : ((cfg0.win 5).xblock (cfg0.grid.coords t)).Idx) (r : Fin 32) (s : Fin 24) (e : Fin 1024)
    (h0 : (y 0).val = r.val) (h1 : (y 1).val = 0) (h2 : (y 2).val = s.val) (h3 : (y 3).val = e.val) :
    arrayOf m c H (((View.whole main_call0_v5).slice (win0_5.rect t)).emb y) = enc m c H (row t r) s (chan t) e := by
  have q : ((View.whole main_call0_v5).slice (win0_5.rect t)).emb y = ix4 (row t r) (chan t) s e := by blk_ext [idx t]
  rw [q]
  rfl

/-- Row `k` of the month table, as the kernel loads it from its block. -/
theorem table_row (t : Fin cfg0.N) (k : Fin 12) (e : Fin 256) (inb) :
    View.ld (iblk m c 3 t) (Rect.unit (s := S12x256) ![k.val, 0] ![1, 256] inb) (ix2 0 e) = m ((c.tc : Thread nD τ).loc main_arg4) (ix2 k e) :=
  (View.ld_unit_apply_of (iblk m c 3 t) _ _ inb (ix2 0 e) (ix2 k e) (fun a => by fin_cases a <;> simp [ix2])).trans (table_block m c t k e)

/-- A row of the month table lies inside it. -/
theorem row_inb (k : Fin 12) : ∀ a, (![k.val, 0] : Fin 2 → ℕ) a + S1x256.size a ≤ S12x256.size a := by
  revert k; decide

/-- The channel's row, as the kernel loads it from the channel table at point `t`. -/
theorem channel_row (t : Fin cfg0.N) (e : Fin 256) (inb) :
    View.ld (iblk m c 1 t) (Rect.unit (s := S3x256) (k0_off1 (grid0.coords t)) ![1, 256] inb) (ix2 0 e)
      = m ((c.tc : Thread nD τ).loc main_arg2) (ix2 (chan t) e) :=
  (View.ld_unit_apply_of (iblk m c 1 t) _ _ inb (ix2 0 e) (ix2 (chan t) e) (fun a => by
    have h : k0_off1 (grid0.coords t) = ![(grid0.coords t 1).val, 0] := by revert t; decide +kernel
    have ha := congrFun h a
    fin_cases a <;> simp_all [ix2])).trans (channel_block m c t (chan t) e)

/-- The region's result array holds the encoded tokens. -/
theorem region_array : Value.reg_main_call0_v5 m c = arrayOf m c H := by
  unfold Value.reg_main_call0_v5
  refine (dats m 0 c).arrAt_eq_of_covers 5 _ (by decide +kernel) fun t hf y => ?_
  blk_simp [idx t]
  rw [after0_5]
  unfold outsAt0
  frame_out
  canon_tiles x h
  all_goals
    idx_vars x
    obtain rfl : x1 = 0 := Subsingleton.elim _ _
  · rw [arrayOf_block m c H t y x0 x2 (col 768 (by decide) x3) h0 h1 h2 h3]
    refine (fourth_store (iblk m c 4 t) x0 x2 x3).trans ((token_block m c t x0 x2 _).trans ?_)
    rw [enc, encoded, quarters_fourth _ _ _ _ (Nat.le_add_right _ _), add_zero]
  · rw [arrayOf_block m c H t y x0 x2 (col 512 (by decide) x3) h0 h1 h2 h3]
    refine (third_store (iblk m c 4 t) x0 x2 x3 (iblk m c 0 t)
      (fun k => View.ld (iblk m c 3 t) (Rect.unit (s := S12x256) ![k.val, 0] ![1, 256] (row_inb k)))).trans ?_
    rw [enc, encoded, quarters_third _ _ _ _ x3 rfl, flagged_eq, month_block, dif_pos (H (row t x0) x2)]
    exact congrArg₂ (· + ·) (token_block m c t x0 x2 _) (table_row m c t _ x3 _)
  · rw [arrayOf_block m c H t y x0 x2 (col 256 (by decide) x3) h0 h1 h2 h3]
    refine (second_store (iblk m c 4 t) x0 x2 x3 (iblk m c 2 t)).trans ?_
    rw [enc, encoded, quarters_second _ _ _ _ x3 rfl]
    exact congrArg₂ (· + ·) (token_block m c t x0 x2 _) (position_block m c t x2 x3)
  · rw [arrayOf_block m c H t y x0 x2 (col 0 (by decide) x3) h0 h1 h2 (h3.trans (Nat.zero_add _).symm)]
    refine (first_store (iblk m c 4 t) x0 x2 x3 _).trans ?_
    rw [enc, encoded, quarters_first _ _ _ _ x3 (Nat.zero_add _)]
    exact congrArg₂ (· + ·) (token_block m c t x0 x2 _) (channel_row m c t x3 _)

end Cert.KernelIdeal.Encode

end
-- ==== Proof.Take.lean ====
module

public import proofs.«01_k».proof.Proof.Gen.ReferenceIdeal.Read
public import proofs.«01_k».proof.Proof.Spec
public import Idealize.ShloMosaic.Lib.Routing.OpsPair

@[expose] public section

set_option maxRecDepth 16384

noncomputable section

namespace Cert.ReferenceIdeal.Encode

open Cert.ReferenceIdeal Cert.ReferenceIdeal.Gen Cert.ReferenceIdeal.Read Idealize.ShloMosaic Idealize.ShloMosaic.Pointwise Cert.Encode

variable (x1 : IVec S256x24x3 32) (x4 : FVec Ideal S12x256 .f32) (b : Fin 256) (s : Fin 24) (d : Fin 256)

/-- The word by which row `(b, s)` is taken from the table, before its wrap: the month. -/
theorem month_word : val_main_v11 (F := Ideal) x1 (ix2 b s) = x1 (ix3 b s 1) := by
  unfold val_main_v11 val_main_v10
  pointwise

/-- A month of the table is taken as it is: it is not negative, so nothing is added to it. -/
theorem month_start (h : (x1 (ix3 b s 1)).toNat < 12) (z : Fin 1) : val_main_call0_v5 (F := Ideal) x1 (ix3 b s z) = x1 (ix3 b s 1) := by
  have e : val_main_call0_v4 (F := Ideal) x1 (ix2 b s) = x1 (ix3 b s 1) := by
    rw [val_main_call0_v4_apply, val_main_call0_v1_apply, month_word, val_main_call0_v0_apply, val_main_call0_c_apply]
    exact Routing.wrap_of_lt _ _ (by omega)
  rw [val_main_call0_v5_apply]
  refine Eq.trans (congrArg _ ?_) e
  idx_ext

/-- A word below twelve passes both comparisons with the ends of the table. -/
theorem in_bounds (w : BitVec 32) (h : w.toNat < 12) :
    IntOp.andi (IntOp.cmpi .sge w 0#32) (IntOp.cmpi .sle w 11#32) = 1#1 := by
  have all : ∀ k : Fin 12, IntOp.andi (IntOp.cmpi .sge (BitVec.ofNat 32 k.val) 0#32) (IntOp.cmpi .sle (BitVec.ofNat 32 k.val) 11#32) = 1#1 := by
    decide
  have hw : BitVec.ofNat 32 w.toNat = w := BitVec.eq_of_toNat_eq (by rw [BitVec.toNat_ofNat]; exact Nat.mod_eq_of_lt w.isLt)
  exact hw ▸ all ⟨w.toNat, h⟩

/-- So the row's mask is set. -/
theorem month_mask (h : (x1 (ix3 b s 1)).toNat < 12) : val_main_call0_v12 (F := Ideal) x1 (ix2 b s) = 1#1 := by
  unfold val_main_call0_v12
  pointwise
  have one : val_main_call0_v11 (F := Ideal) x1 (ix3 b s 0) = 1#1 := by
    rw [val_main_call0_v11_apply, val_main_call0_v7_apply, val_main_call0_v10_apply, month_start x1 b s h]
    exact in_bounds _ h
  rw [show (Finset.univ : Finset (Fin 1)) = {0} from rfl, Finset.fold_singleton, one]
  rfl

/-- The gathered row is the month's row of the table. -/
theorem month_gather (h : (x1 (ix3 b s 1)).toNat < 12) :
    val_main_call0_v13 (F := Ideal) x1 x4 (ix3 b s d) = x4 (ix2 ⟨(x1 (ix3 b s 1)).toNat, h⟩ d) := by
  unfold val_main_call0_v13 Host.gather
  refine congrArg x4 ?_
  funext a
  refine Fin.ext ?_
  set dd := gather_S12x256_S256x24x1_S256x24x256_2_0_n_n_0_2_1256 with hd
  have hsi : ∀ q, dd.siIdx (ix3 b s d) q = ix3 b s 0 := fun q => by
    funext z
    refine Fin.ext ?_
    fin_cases z
    · rfl
    · rfl
    · exact congrArg Fin.val (Subsingleton.elim (α := Fin 1) _ _)
  show dd.start (ix3 b s d) (val_main_call0_v5 (F := Ideal) x1) a + dd.batchCoord (ix3 b s d) a + dd.offCoord (ix3 b s d) a = _
  rw [dd.batchCoord_eq_zero _ _ List.not_mem_nil]
  fin_cases a
  · show dd.start _ _ 0 + 0 + dd.offCoord _ 0 = _
    rw [dd.offCoord_eq_zero _ _ (by decide)]
    unfold GatherDims.start
    rw [dif_pos (by decide), hsi, month_start x1 b s h]
    have := BitVec.toInt_eq_toNat_of_lt (x := x1 (ix3 b s 1)) (by omega)
    show min (x1 (ix3 b s 1)).toInt.toNat (12 - 1) + 0 + 0 = (x1 (ix3 b s 1)).toNat
    omega
  · show dd.start _ _ 1 + 0 + dd.offCoord _ 1 = _
    unfold GatherDims.start
    rw [dif_neg (by decide)]
    unfold GatherDims.offCoord
    rw [dif_pos (by decide)]
    exact (Nat.zero_add _)

/-- **The taken row**: channel `d` of row `(b, s)` is channel `d` of the month's row of the table. -/
theorem month_taken (h : (x1 (ix3 b s 1)).toNat < 12) :
    val_main_v12 (F := Ideal) x1 x4 (ix3 b s d) = x4 (ix2 ⟨(x1 (ix3 b s 1)).toNat, h⟩ d) := by
  rw [val_main_v12_apply]
  have e : val_main_call0_v14 (F := Ideal) x1 (ix3 b s d) = 1#1 := by
    rw [val_main_call0_v14_apply]
    refine Eq.trans (congrArg _ ?_) (month_mask x1 b s h)
    idx_ext
  rw [e]
  exact month_gather x1 x4 b s d h

end Cert.ReferenceIdeal.Encode

end
-- ==== Proof.Scatter.lean ====
module

public import proofs.«01_k».proof.Proof.Gen.ReferenceIdeal.Read
public import Idealize.ShloMosaic.Lib.Routing.OpsPair

@[expose] public section

set_option maxRecDepth 16384

noncomputable section

namespace Cert.ReferenceIdeal.Encode

open Cert.ReferenceIdeal Cert.ReferenceIdeal.Gen Idealize.ShloMosaic Idealize.ShloMosaic.Routing

/-- A fold over a list without repetition in which one element alone changes the value: the value it makes of the start. -/
theorem foldl_one {α β : Type} (p : β → Prop) [DecidablePred p] (f : α → β → α) (L : List β) (hL : L.Nodup) (b : β) (hb : b ∈ L)
    (hp : ∀ n ∈ L, p n ↔ n = b) (a : α) : L.foldl (fun a n => if p n then f a n else a) a = f a b := by
  induction L generalizing a with
  | nil => cases hb
  | cons n l ih =>
    rw [List.foldl_cons]
    have hn := List.nodup_cons.1 hL
    by_cases e : n = b
    · subst e
      rw [if_pos ((hp n List.mem_cons_self).2 rfl)]
      refine List.foldlRecOn (motive := fun x => x = f a n) l _ rfl fun x hx k hk => ?_
      rw [if_neg fun q => hn.1 ((hp k (List.mem_cons_of_mem _ hk)).1 q ▸ hk), hx]
    · rw [if_neg fun q => e ((hp n List.mem_cons_self).1 q)]
      exact ih hn.2 ((List.mem_cons.1 hb).resolve_left fun q => e q.symm) (fun k hk => hp k (List.mem_cons_of_mem _ hk)) a

/-- A scatter whose update `k` alone lands at `ι` combines that update with the operand's element there. -/
theorem scatter_hit {α : Type} {s si u : Shape} {w : Nat} (d : ScatterDims s si u) (f : α → α → α) (x : s.Idx → α) (idx : IVec si w)
    (upd : u.Idx → α) (ι : s.Idx) (k : u.Idx) (hk : ∀ j, d.resultIdx? j idx = some ι ↔ j = k) :
    Host.scatter d f x idx upd ι = f (x ι) (upd k) := by
  rw [scatter_at]
  refine (foldl_one (fun n => d.resultIdx? (u.rowMajor.symm n) idx = some ι) (fun a n => f a (upd (u.rowMajor.symm n))) _
    (List.nodup_finRange _) (u.rowMajor k) (List.mem_finRange _) (fun n _ => ?_) (x ι)).trans ?_
  · rw [hk, Equiv.symm_apply_eq]
  · rw [Equiv.symm_apply_apply]

/-- A scatter none of whose updates lands at `ι` leaves the operand's element there. -/
theorem scatter_miss {α : Type} {s si u : Shape} {w : Nat} (d : ScatterDims s si u) (f : α → α → α) (x : s.Idx → α) (idx : IVec si w)
    (upd : u.Idx → α) (ι : s.Idx) (hk : ∀ j, d.resultIdx? j idx ≠ some ι) : Host.scatter d f x idx upd ι = x ι := by
  rw [scatter_at]
  exact List.foldlRecOn (motive := fun a => a = x ι) _ _ rfl fun a ha n _ => by rw [if_neg (hk _), ha]

/-- The scatter that adds a quarter of 256 columns from column `idx 0` on: where its update `j` lands. -/
theorem lands (idx : IVec S1 32) (o : ℕ) (ho : ∀ i, (idx i).toInt = (o : ℤ)) (j : S256x24x3x256.Idx) (ι : S256x24x3x1024.Idx) :
    scatter_S256x24x3x1024_S1_S256x24x3x256_0123_n_3_0.resultIdx? j idx = some ι
      ↔ (j 0).val = (ι 0).val ∧ (j 1).val = (ι 1).val ∧ (j 2).val = (ι 2).val ∧ o + (j 3).val = (ι 3).val := by
  have hs : ∀ a : Fin 4, scatter_S256x24x3x1024_S1_S256x24x3x256_0123_n_3_0.start j idx a = if a = 3 then (o : ℤ) else 0 := fun a => by
    have hm : a ∈ scatter_S256x24x3x1024_S1_S256x24x3x256_0123_n_3_0.scatterDimsToOperandDims ↔ a = 3 := List.mem_singleton
    unfold ScatterDims.start
    by_cases h : a = 3
    · rw [dif_pos (hm.2 h), ho, if_pos h]
    · rw [dif_neg fun q => h (hm.1 q), if_neg h]
  have hw : ∀ a : Fin 4, scatter_S256x24x3x1024_S1_S256x24x3x256_0123_n_3_0.window j a = (j a).val := fun a => by
    unfold ScatterDims.window
    fin_cases a <;> rfl
  rw [resultIdx?_eq_some]
  constructor
  · intro h
    have h0 := h 0; have h1 := h 1; have h2 := h 2; have h3 := h 3
    rw [hs, hw] at h0 h1 h2 h3
    simp at h0 h1 h2 h3
    omega
  · rintro ⟨h0, h1, h2, h3⟩ a
    rw [hs, hw]
    fin_cases a <;> simp <;> omega

end Cert.ReferenceIdeal.Encode

end
-- ==== Proof.Reference.lean ====
module

public import proofs.«01_k».proof.Proof.Take
public import proofs.«01_k».proof.Proof.Scatter

@[expose] public section

set_option maxRecDepth 16384

noncomputable section

namespace Cert.ReferenceIdeal.Encode

open Cert.ReferenceIdeal Cert.ReferenceIdeal.Gen Cert.ReferenceIdeal.Read Idealize.ShloMosaic Idealize.ShloMosaic.Pointwise Cert.Encode

section
variable (x : FVec Ideal S256x24x3x1024 .f32) (idx : IVec S1 32) (upd : FVec Ideal S256x24x3x256 .f32) (o : ℕ)
  (ho : ∀ i, (idx i).toInt = o) (b : Fin 256) (s : Fin 24) (k : Fin 3) (e : Fin 1024)

include ho in
/-- Adding a quarter that starts at column `o`: column `e = o + d` gains the quarter's column `d`. -/
theorem added (d : Fin 256) (he : e.val = o + d.val) :
    Host.scatter scatter_S256x24x3x1024_S1_S256x24x3x256_0123_n_3_0 FloatOps.addf x idx upd (ix4 b s k e)
      = FloatOps.addf (F := Ideal) (x (ix4 b s k e)) (upd (ix4 b s k d)) := by
  refine scatter_hit _ _ x idx upd (ix4 b s k e) (ix4 b s k d) fun j => (lands idx o ho j _).trans ⟨fun ⟨h0, h1, h2, h3⟩ => ?_, fun h => ?_⟩
  · funext a
    refine Fin.ext ?_
    have h3' : o + (j 3).val = e.val := h3
    fin_cases a
    · exact h0
    · exact h1
    · exact h2
    · show (j 3).val = d.val
      omega
  · subst h
    exact ⟨rfl, rfl, rfl, he.symm⟩

include ho in
/-- A column outside the quarter is as it was. -/
theorem kept (he : e.val < o ∨ o + 256 ≤ e.val) :
    Host.scatter scatter_S256x24x3x1024_S1_S256x24x3x256_0123_n_3_0 FloatOps.addf x idx upd (ix4 b s k e) = x (ix4 b s k e) := by
  refine scatter_miss _ _ x idx upd (ix4 b s k e) fun j h => ?_
  have h3 : o + (j 3).val = e.val := ((lands idx o ho j _).1 h).2.2.2
  have hj : (j 3).val < 256 := (j 3).isLt
  omega

end

section
variable (x0 : FVec Ideal S256x24x3x1024 .f32) (x1 : IVec S256x24x3 32) (x2 : FVec Ideal S3x256 .f32) (x3 : FVec Ideal S64x256 .f32)
  (x4 : FVec Ideal S12x256 .f32) (b : Fin 256) (s : Fin 24) (k : Fin 3) (e : Fin 1024) (d : Fin 256)

/-- The sum of the quarters starts at zero. -/
theorem start_zero (i : S256x24x3x1024.Idx) : val_main_v0 (F := Ideal) i = (0 : EReal) := by
  rw [val_main_v0_apply, val_main_cst_apply]
  exact Ideal.ofBits_zero _

/-- The channel's row, repeated over batch rows and steps. -/
theorem channel_quarter : val_main_v2 (F := Ideal) x2 (ix4 b s k d) = x2 (ix2 k d) := by
  rw [val_main_v2_apply, val_main_v1_apply]
  refine congrArg x2 ?_
  idx_ext

/-- The position's row, repeated over batch rows and channels. -/
theorem position_quarter : val_main_v7 (F := Ideal) x3 (ix4 b s k d) = x3 (ix2 ⟨s.val, by omega⟩ d) := by
  rw [val_main_v7_apply, val_main_v6_apply, val_main_v5_apply]
  refine congrArg x3 ?_
  idx_ext

/-- The month's row, repeated over channels. -/
theorem month_quarter (H : MonthsInTable x1) :
    val_main_v14 (F := Ideal) x1 x4 (ix4 b s k d) = x4 (ix2 ⟨(x1 (ix3 b s 1)).toNat, H b s⟩ d) := by
  rw [val_main_v14_apply, val_main_v13_apply]
  refine Eq.trans (congrArg _ ?_) (month_taken x1 x4 b s d (H b s))
  idx_ext

/-- The word at which the first quarter is added. -/
theorem at_first (i : S1.Idx) : (val_main_v3 (F := Ideal) i).toInt = (0 : ℕ) := by rw [val_main_v3_apply]; rfl
/-- The word at which the second quarter is added. -/
theorem at_second (i : S1.Idx) : (val_main_v8 (F := Ideal) i).toInt = (256 : ℕ) := by rw [val_main_v8_apply]; rfl
/-- The word at which the third quarter is added. -/
theorem at_third (i : S1.Idx) : (val_main_v15 (F := Ideal) i).toInt = (512 : ℕ) := by rw [val_main_v15_apply]; rfl

/-- The three scatters, one after the other, leave the four quarters of the encoding. -/
theorem sum_of_quarters (H : MonthsInTable x1) : val_main_v16 (F := Ideal) x1 x2 x3 x4 (ix4 b s k e)
    = quarters (fun d => x2 (ix2 k d)) (fun d => x3 (ix2 ⟨s.val, by omega⟩ d)) (fun d => x4 (ix2 ⟨(x1 (ix3 b s 1)).toNat, H b s⟩ d)) e := by
  unfold val_main_v16 val_main_v9 val_main_v4
  have he := e.isLt
  by_cases h1 : e.val < 256
  · rw [kept _ _ _ 512 at_third b s k e (by omega), kept _ _ _ 256 at_second b s k e (by omega),
      added _ _ _ 0 at_first b s k e ⟨e.val, h1⟩ (Nat.zero_add _).symm, start_zero, channel_quarter,
      quarters_first _ _ _ e ⟨e.val, h1⟩ rfl]
    exact zero_add _
  · by_cases h2 : e.val < 512
    · obtain ⟨d, hd⟩ : ∃ d : Fin 256, e.val = 256 + d.val := ⟨⟨e.val - 256, by omega⟩, by show e.val = 256 + (e.val - 256); omega⟩
      rw [kept _ _ _ 512 at_third b s k e (by omega), added _ _ _ 256 at_second b s k e d hd,
        kept _ _ _ 0 at_first b s k e (by omega), start_zero, position_quarter, quarters_second _ _ _ e d hd]
      exact zero_add _
    · by_cases h3 : e.val < 768
      · obtain ⟨d, hd⟩ : ∃ d : Fin 256, e.val = 512 + d.val := ⟨⟨e.val - 512, by omega⟩, by show e.val = 512 + (e.val - 512); omega⟩
        rw [added _ _ _ 512 at_third b s k e d hd, kept _ _ _ 256 at_second b s k e (by omega),
          kept _ _ _ 0 at_first b s k e (by omega), start_zero, month_quarter x1 x4 b s k d H, quarters_third _ _ _ e d hd]
        exact zero_add _
      · rw [kept _ _ _ 512 at_third b s k e (by omega), kept _ _ _ 256 at_second b s k e (by omega),
          kept _ _ _ 0 at_first b s k e (by omega), start_zero, quarters_fourth _ _ _ e (by omega)]

/-- **The reference's result**: the encoded token. -/
theorem reference_value (H : MonthsInTable x1) :
    val_main_v17 (F := Ideal) x0 x1 x2 x3 x4 (ix4 b s k e) = encoded x0 x1 x2 x3 x4 H b s k e := by
  rw [val_main_v17_apply, sum_of_quarters x1 x2 x3 x4 b s k e H]
  rfl

end

end Cert.ReferenceIdeal.Encode

end
-- ==== Proof.Months.lean ====
module

public import proofs.«01_k».proof.Proof.Gen.Pre_months_name_rows
public import proofs.«01_k».proof.Proof.Spec
public import Idealize.ShloMosaic.Lib.WordCmp

@[expose] public section

noncomputable section

namespace Cert.Pre_months_name_rows.Encode

open Cert.Pre_months_name_rows Cert.Pre_months_name_rows.Gen Idealize.ShloMosaic Idealize.ShloMosaic.Pointwise Cert.Encode

/-- **What the precondition says**: every month is a row of the month table. -/
theorem months_in_table (x0 : FVec Ideal S256x24x3x1024 .f32) (x1 : IVec S256x24x3 32) (x2 : FVec Ideal S3x256 .f32)
    (x3 : FVec Ideal S64x256 .f32) (x4 : FVec Ideal S12x256 .f32) (h : fn (F := Ideal) x0 x1 x2 x3 x4 = fun _ => 1#1) : MonthsInTable x1 := by
  intro b s
  have e := congrFun h (ix2 b s)
  unfold fn at e
  revert e
  pointwise
  intro e
  rw [show (12#32) = BitVec.ofNat 32 12 from rfl, WordCmp.andi_sge_zero_slt_ofNat (by decide)] at e
  by_contra n
  rw [decide_eq_false n] at e
  exact absurd e (by decide)

end Cert.Pre_months_name_rows.Encode

end
-- ==== Proof.Equation.lean ====
module

public import proofs.«01_k».proof.Defs
public import proofs.«01_k».proof.Proof.KernelArray
public import proofs.«01_k».proof.Proof.Reference
public import proofs.«01_k».proof.Proof.Months
public import proofs.«01_k».proof.Proof.Gen.KernelIdeal.Read

@[expose] public section

set_option maxRecDepth 16384

noncomputable section

namespace Cert.Encode

open Idealize.ShloMosaic Idealize.SL.Sem Idealize.ShloMosaic.Pointwise

variable (m : (ℓ : Loc KernelIdeal.nD KernelIdeal.τ KernelIdeal.sig) → Buf (Elt Ideal) ℓ) (c : Dev KernelIdeal.nD)

/-- The result both programs leave: the kernel's term, the region's array with steps before channels. -/
abbrev result : Buf (Elt Ideal) ((c.tc : Thread KernelIdeal.nD KernelIdeal.τ).loc KernelIdeal.main_v0) :=
  KernelIdeal.Read.val_main_v0 (F := Ideal) (KernelIdeal.Value.reg_main_call0_v5 m c)

/-- The kernel's result is the encoded tokens. -/
theorem kernel_value (H : MonthsInTable (m ((c.tc : Thread KernelIdeal.nD KernelIdeal.τ).loc KernelIdeal.main_arg1)))
    (b : Fin 256) (s : Fin 24) (k : Fin 3) (e : Fin 1024) :
    result m c (ix4 b s k e) = KernelIdeal.Encode.enc m c H b s k e := by
  rw [result, KernelIdeal.Read.val_main_v0_apply, KernelIdeal.Encode.region_array m c H]
  rfl

/-- **The equation**: where the months are rows of the month table, the reference's result from the kernel's arguments is the
    kernel's result. -/
theorem reference_eq_kernel (H : MonthsInTable (m ((c.tc : Thread KernelIdeal.nD KernelIdeal.τ).loc KernelIdeal.main_arg1))) :
    ReferenceIdeal.Read.val_main_v17 (F := Ideal) (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
      (m ((c.tc : Thread KernelIdeal.nD KernelIdeal.τ).loc KernelIdeal.main_arg4)) = result m c := by
  funext i
  idx_vars i
  exact (ReferenceIdeal.Encode.reference_value _ _ _ _ _ _ _ _ _ H).trans (kernel_value m c H _ _ _ _).symm

/-- The two programs leave equal results from equal arguments whose months are rows of the month table. -/
theorem algebraic : Cert.algebraic_KernelIdeal_ReferenceIdeal_pre_months_name_rows := by
  intro m g m' g' hpre hargs
  refine ⟨result m, KernelIdeal.Value.run m g, (θ_run ReferenceIdeal.defs _ _).mono (fun r h c => ⟨?_, (h c).2⟩) (ReferenceIdeal.Value.run (F := Ideal) m' g')⟩
  obtain ⟨a0, a1, a2, a3, a4⟩ := hargs c
  refine ((h c).1.trans (ReferenceIdeal.Read.val_main_v17_eq (F := Ideal) _ _ _ _ _)).trans ?_
  rw [a0, a1, a2, a3, a4]
  exact reference_eq_kernel m c (Pre_months_name_rows.Encode.months_in_table _ _ _ _ _ (hpre c))

end Cert.Encode

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Run
public import proofs.«01_k».proof.Proof.Gen.KernelIdeal.Read
public import proofs.«01_k».proof.Proof.Gen.ReferenceIdeal.Read
public import proofs.«01_k».proof.Proof.Gen.Pre_months_name_rows
public import proofs.«01_k».proof.Proof.Equation
public import Idealize.ShloMosaic.Adequacy
public import Idealize.ShloMosaic.Init

@[expose] public section

noncomputable section

namespace Cert.Proof

open Idealize.ShloMosaic Idealize.SL.Sem

/-- The reference runs, its arguments end unchanged, and it has no semaphore counter that could end other than at zero. -/
theorem reference_frame : Cert.quiescent_ReferenceIdeal := fun m g _ =>
  (θ_run ReferenceIdeal.defs _ _).mono (fun r h => ⟨fun c => (h c).2, sem_eq_zero_of_no_sems (by decide) r.2⟩)
    (ReferenceIdeal.Value.run (F := Ideal) m g)

/-- **The certificate**: each of the three programs runs, leaves its arguments unchanged and its semaphore counters at zero; the
    kernel over the extended reals is the kernel's own text, with no operation rewritten; and where every month is a row of the
    month table the kernel and the reference leave equal results. -/
theorem claim : Cert.Claim := ⟨Cert.Kernel.Gen.facts, Cert.KernelIdeal.Gen.facts, Cert.ReferenceIdeal.Gen.facts,
  Cert.Pre_months_name_rows.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  trivial, Cert.Encode.algebraic⟩

end Cert.Proof

end
